-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0123_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x256x256 : Shape := ⟨3, ![1, 256, 256]⟩
abbrev S4 : Shape := ⟨1, ![4]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x256x256, .f32⟩
  | .hbm, ⟨1, _⟩ => ⟨S4, .i32⟩
  | .hbm, ⟨2, _⟩ => ⟨S1x256x256, .f32⟩
  | .local _ .vmem, ⟨0, _⟩ => ⟨S1x256x256, .f32⟩
  | .local _ .vmem, ⟨1, _⟩ => ⟨S1x256x256, .f32⟩
  | .local _ .smem, ⟨0, _⟩ => ⟨S4, .i32⟩
  | _, _ => ⟨S1x256x256, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : Index := Scalar.indexCast v2
  ![v3.toNat]
def k0_dev1 (d0 : Dev nD) (v5 : BitVec 32) (v8 : BitVec 32) (v11 : BitVec 32) (v14 : BitVec 32) : Nat :=
  let c0_i32_4 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let c1_i32_3 : BitVec 32 := 1#32
  let v18 : BitVec 32 := Scalar.muli v16 c1_i32_3
  let v19 : BitVec 32 := Scalar.addi c0_i32_4 v18
  v19.toNat

def k0_chk1 (d0 : Dev nD) (v5 : BitVec 32) (v8 : BitVec 32) (v11 : BitVec 32) (v14 : BitVec 32) : Prop :=
  ((k0_dev1 d0 v5 v8 v11 v14) < nD)
theorem k0_dev1_lt : ∀ (d0 : Dev nD) (v5 : BitVec 32) (v8 : BitVec 32) (v11 : BitVec 32) (v14 : BitVec 32) (k0_hw1 : k0_chk1 d0 v5 v8 v11 v14), (k0_dev1 d0 v5 v8 v11 v14) < nD := fun d0 v5 v8 v11 v14 k0_hw1 => k0_hw1

def k0_dev2 (v4 : BitVec 32) : Nat :=
  let c0_i32_7 : BitVec 32 := 0#32
  let c1_i32_6 : BitVec 32 := 1#32
  let v20 : BitVec 32 := Scalar.muli v4 c1_i32_6
  let v21 : BitVec 32 := Scalar.addi c0_i32_7 v20
  v21.toNat

def k0_chk2 (v4 : BitVec 32) : Prop :=
  ((k0_dev2 v4) < nD)
theorem k0_dev2_lt : ∀ (v4 : BitVec 32) (k0_hw2 : k0_chk2 v4), (k0_dev2 v4) < nD := fun v4 k0_hw2 => k0_hw2

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x256x256 : Shape := ⟨3, ![4, 256, 256]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Table.lean ====
/-
The table `pi` as a permutation: `words σ` is the table whose word `j` names device `σ j`. From such a table a device
reads its target `σ c` off its own word, and finds its source `σ⁻¹ c` by comparing all four words with its own number.
-/
module

public import proofs.«01_k».proof.Proof.Gen.KernelIdeal.Skeleton

@[expose] public section

noncomputable section

namespace Cert.Proof

open Cert.KernelIdeal Cert.KernelIdeal.Gen
open Idealize.ShloMosaic Idealize.SL.Sem

/-- Who sends to whom: device `c` sends its block to device `σ c`. -/
abbrev Routing : Type := Equiv.Perm (Fin 4)

/-- Word `j` of the table that describes `σ`. -/
def words (σ : Routing) (j : Fin 4) : BitVec 32 := BitVec.ofNat 32 (σ j).val

/-- That table as an array of four words. -/
def table (σ : Routing) : S4.Idx → BitVec 32 := fun i => words σ (i 0)

/-- The device that a transfer addresses by the word of `σ c` is `σ c`. -/
theorem target_eq (σ : Routing) (c : Dev nD) : k0_dev2 (words σ c) = (σ c).val :=
  (by decide : ∀ d : Fin 4, k0_dev2 (BitVec.ofNat 32 d.val) = d.val) (σ c)

/-- Such a word names a device of the mesh. -/
theorem target_lt (σ : Routing) (c : Dev nD) : k0_chk2 (words σ c) := by
  unfold k0_chk2; rw [target_eq]; exact (σ c).isLt

theorem target_dev (σ : Routing) (c : Dev nD) (h : k0_chk2 (words σ c)) : (⟨k0_dev2 (words σ c), k0_dev2_lt _ h⟩ : Dev nD) = σ c :=
  Fin.ext (target_eq σ c)

/-- Of four different device numbers, the search for the number at position `j` finds `j`. -/
theorem search_eq : ∀ f : Fin 4 → Fin 4, Function.Injective f → ∀ j : Fin 4,
    k0_dev1 (f j) (BitVec.ofNat 32 (f 0).val) (BitVec.ofNat 32 (f 1).val) (BitVec.ofNat 32 (f 2).val) (BitVec.ofNat 32 (f 3).val) = j.val := by
  decide +kernel

/-- The device that device `c` signals is the one that sends to it. -/
theorem source_eq (σ : Routing) (c : Dev nD) : k0_dev1 c (words σ 0) (words σ 1) (words σ 2) (words σ 3) = (σ.symm c).val := by
  have h := search_eq σ σ.injective (σ.symm c)
  rwa [σ.apply_symm_apply c] at h

theorem source_dev (σ : Routing) (c : Dev nD) (h : k0_chk1 c (words σ 0) (words σ 1) (words σ 2) (words σ 3)) :
    (⟨k0_dev1 c (words σ 0) (words σ 1) (words σ 2) (words σ 3), k0_dev1_lt _ _ _ _ _ h⟩ : Dev nD) = σ.symm c :=
  Fin.ext (source_eq σ c)

end Cert.Proof

end
-- ==== Proof.Schedule.lean ====
/-
What the devices tell each other, for a routing `σ`. Every device has three semaphore cells, each used once:

* its BARRIER cell receives one unit from its target `σ c`, which thereby hands over its result buffer to be written;
* its SEND cell is credited by its own copy when the copy has left, which gives its block back;
* its RECEIVE cell is credited by the copy of its source `σ⁻¹ c` when it has arrived, which gives the result buffer
  back holding the source's block.

Nothing here supposes `σ c ≠ c`: a device may be its own target.
-/
module

public import proofs.«01_k».proof.Proof.Table
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two copies of the round library's state: the staging pipeline's and this protocol's. -/
abbrev UU : Type := UR sig nD τ × UR sig nD τ

/-- The resources of the logic. -/
local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (σ : Routing)

/-! ## Buffers and cells -/

/-- The staged block, the staged table and the staged result. -/
abbrev xM : Memref sig .tc .vmem S1x256x256 .f32 := Memref.whole cc0_stg0_0
abbrev tM : Memref sig .tc .smem S4 .i32 := Memref.whole cc0_stg1_0
abbrev oM : Memref sig .tc .vmem S1x256x256 .f32 := Memref.whole cc0_stg2_0

abbrev barS : Sem sig := (SemArray.scalar (sig.barrier 0 rfl) : Sems sig S_).sem
abbrev sendS : DmaSem sig := (cc0_scratch0 : DmaSems sig S_).sem
abbrev recvS : DmaSem sig := (cc0_scratch1 : DmaSems sig S_).sem

/-- The three semaphores: barrier, send, receive. -/
abbrev csem : Fin 3 → SemLoc sig := fun | 0 => .reg barS | 1 => .dma sendS | 2 => .dma recvS

/-- Cell `k` of device `c`. -/
abbrev cell (c : Dev nD) (k : Fin 3) : GSem nD τ sig := ((c : Thread nD τ), csem k)

/-- What one copy of a block credits a semaphore with. -/
abbrev N : ℕ := (oM : Memref sig .tc .vmem S1x256x256 .f32).view.dmaCredit

theorem N_pos : 0 < N := View.dmaCredit_pos _ (by decide)

theorem csem_injective : Function.Injective csem := by decide

/-- Which of the three a semaphore is, if any. -/
def kindOf (s : SemLoc sig) : Option (Fin 3) :=
  if s = csem 0 then some 0 else if s = csem 1 then some 1 else if s = csem 2 then some 2 else none

theorem kindOf_csem : ∀ k, kindOf (csem k) = some k := by decide

theorem cell_inj {c d : Dev nD} {k l : Fin 3} (h : cell c k = cell d l) : c = d ∧ k = l :=
  ⟨congrArg (fun g : GSem nD τ sig => g.1.1) h, csem_injective (congrArg Prod.snd h)⟩

/-! ## Contents -/

/-- Device `c`'s block of `x`. -/
def own (c : Dev nD) : (cc0_stg0_0 : Ref sig .tc).ty.Contents (Elt F) := m ((c : Thread nD τ).loc main_arg0)

/-- Device `c`'s staged block held outright. -/
def ownPts (c : Dev nD) : sProp 𝕄 :=
  (xM : Memref sig .tc .vmem S1x256x256 .f32).view.loc (c : Thread nD τ) ↦[(xM : Memref sig .tc .vmem S1x256x256 .f32).view.set]{fullShare} own m c

/-- Device `c`'s staged result held outright with contents `f`. -/
def resPts (c : Dev nD) (f : Buf (Elt F) ((oM : Memref sig .tc .vmem S1x256x256 .f32).view.loc (c : Thread nD τ))) : sProp 𝕄 :=
  (oM : Memref sig .tc .vmem S1x256x256 .f32).view.loc (c : Thread nD τ) ↦[(oM : Memref sig .tc .vmem S1x256x256 .f32).view.set]{fullShare} f

omit [FloatOps F] in
theorem ownPts_eq (c : Dev nD) : ownPts m c = (((c : Thread nD τ).loc cc0_stg0_0) ↦{fullShare} own m c : sProp 𝕄) := by
  unfold ownPts; rw [View.set_whole]

omit [FloatOps F] in
theorem resPts_eq (c : Dev nD) (f : Buf (Elt F) ((c : Thread nD τ).loc cc0_stg2_0)) :
    resPts c f = (((c : Thread nD τ).loc cc0_stg2_0) ↦{fullShare} f : sProp 𝕄) := by
  unfold resPts; rw [View.set_whole]

omit [FloatOps F] in
/-- A copy of the whole block leaves the block, whatever the target held. -/
theorem copied_eq (c : Dev nD) (fd : Buf (Elt F) ((oM : Memref sig .tc .vmem S1x256x256 .f32).view.loc (c : Thread nD τ)))
    (fs : (cc0_stg0_0 : Ref sig .tc).ty.Contents (Elt F)) :
    (oM : Memref sig .tc .vmem S1x256x256 .f32).view.write (Elt F) fd ((xM : Memref sig .tc .vmem S1x256x256 .f32).view.read (Elt F) fs) Finset.univ = fs := by
  show (View.whole cc0_stg2_0).write (Elt F) fd ((View.whole cc0_stg0_0).read (Elt F) fs) Finset.univ = fs
  rw [View.read_whole]
  exact View.write_whole_univ _ _ _

/-! ## The schedule -/

/-- How much cell `k` receives. -/
def due : Fin 3 → ℕ := ![1, N, N]

theorem due_pos : ∀ k, 0 < due k := fun | 0 => Nat.one_pos | 1 => N_pos | 2 => N_pos

/-- What comes with it: the target's result buffer; the own block again; the result buffer holding the source's block. -/
def brings (c : Dev nD) : Fin 3 → sProp 𝕄 := fun
  | 0 => iprop((∃ f, resPts (σ c) f) ∗ reached ER (cell (σ c) 2) 0)
  | 1 => ownPts m c
  | 2 => resPts c (own m (σ.symm c))

omit [FloatOps F] in
instance brings_storable (c : Dev nD) : ∀ k, BI.Storable (upEmb : UEmb _ 𝕄) (brings m σ c k) := fun
  | 0 => by unfold brings resPts; infer_instance
  | 1 => by unfold brings ownPts; infer_instance
  | 2 => by unfold brings resPts; infer_instance

/-- One payment into each of the three cells of every device, in round 0. -/
def sched : Rounds.Schedule (GSem nD τ sig) Unit 𝕄 where
  duties g r := if r = 0 ∧ g.1.2 = .tc ∧ (kindOf g.2).isSome then {()} else ∅
  unitless _ := False
  amount g _ _ := match kindOf g.2 with
    | some k => due k
    | none => 1
  payload g _ _ := match kindOf g.2 with
    | some k => brings m σ g.1.1 k
    | none => iprop(emp)
  amount_pos g _ _ _ := by
    split
    · exact due_pos _
    · exact Nat.one_pos

omit [FloatOps F] in
instance sched_storable (g : GSem nD τ sig) (r : ℕ) (d : Unit) : BI.Storable (upEmb : UEmb _ 𝕄) ((sched m σ).payload g r d) := by
  show BI.Storable upEmb (match kindOf g.2 with | some k => brings m σ g.1.1 k | none => iprop(emp))
  split <;> infer_instance

section Cells
variable (c : Dev nD) (k : Fin 3)

omit [FloatOps F] in
theorem duties_cell : (sched m σ).duties (cell c k) 0 = {()} := by
  dsimp only [sched]; rw [kindOf_csem]; exact if_pos ⟨rfl, rfl, rfl⟩

omit [FloatOps F] in
theorem duties_later (g : GSem nD τ sig) : ∀ r, 1 ≤ r → (sched m σ).duties g r = ∅ := fun r hr => by
  dsimp only [sched]; exact if_neg fun h => by omega

omit [FloatOps F] in
theorem amount_cell : (sched m σ).amount (cell c k) 0 () = due k := by dsimp only [sched]; rw [kindOf_csem]

omit [FloatOps F] in
theorem payload_cell : (sched m σ).payload (cell c k) 0 () = brings m σ c k := by dsimp only [sched]; rw [kindOf_csem]

omit [FloatOps F] in
theorem expect_cell : (sched m σ).expect (cell c k) 0 = due k := by
  unfold Schedule.expect Schedule.amountOf; rw [duties_cell, Finset.sum_singleton, amount_cell]

omit [FloatOps F] in
/-- All that a round of the cell brings. -/
theorem rest_cell : bigSep ((sched m σ).duties (cell c k) 0 \ ∅) (fun d => (sched m σ).payload (cell c k) 0 d) = brings m σ c k := by
  rw [Finset.sdiff_empty, duties_cell, bigSep_singleton, payload_cell]

end Cells

/-! ## What a device owes at launch, and the order of the cells -/

/-- The credit of its target's receive cell, and the unit of its source's barrier cell. -/
def owed₀ (c : Dev nD) : CellTallies nD τ sig Unit := tallyAt (cell (σ c) 2) () N + tallyAt (cell (σ.symm c) 0) () 1

def lvSet (g : GSem nD τ sig) : Finset Unit := if g.1.2 = .tc then {()} else ∅

/-- Barrier cells lie below receive cells and above all others. -/
def lv (g : GSem nD τ sig) (_ : Unit) : ℕ := if g.2 = csem 0 then 1 else if g.2 = csem 2 then 2 else 0

theorem lv_cell (c : Dev nD) (k : Fin 3) : lv (cell c k) () = ![1, 0, 2] k :=
  (by decide : ∀ k : Fin 3, (if csem k = csem 0 then 1 else if csem k = csem 2 then 2 else 0) = ![1, 0, 2] k) k

theorem lvSet_of_ne (g : GSem nD τ sig) (h : g.1.2 ≠ .tc) : lvSet g = ∅ := if_neg h
theorem mem_lvSet (c : Dev nD) (s : SemLoc sig) (u : Unit) : u ∈ lvSet ((c : Thread nD τ), s) := by
  unfold lvSet; rw [if_pos rfl]; exact Finset.mem_singleton_self _

theorem tally_pos {g g' : GSem nD τ sig} {n : ℕ} {u : Unit} (h : 0 < (tallyAt g () n : CellTallies nD τ sig Unit) g' u) : g' = g := by
  rw [tallyAt_apply] at h
  by_contra hn
  rw [if_neg fun e => hn e.1] at h
  exact Nat.lt_irrefl 0 h

theorem owed₀_pos {c : Dev nD} {g : GSem nD τ sig} {u : Unit} (h : 0 < owed₀ σ c g u) : g = cell (σ c) 2 ∨ g = cell (σ.symm c) 0 := by
  unfold owed₀ at h
  rw [Pi.add_apply, Finsupp.add_apply] at h
  rcases Nat.add_pos_iff_pos_or_pos.mp h with h | h
  · exact .inl (tally_pos h)
  · exact .inr (tally_pos h)

omit [FloatOps F] in
/-- A wait at a cell below everything that the device still owes is allowed. -/
theorem mayWait_of (c : Dev nD) (s : SemLoc sig) (n : ℕ) (hs : lv ((c : Thread nD τ), s) () = n) (O : CellTallies nD τ sig Unit)
    (hO : ∀ g u, 0 < O g u → ∃ d k, g = cell d k ∧ n < lv (cell d k) ()) : (levAts lvSet lv : sProp 𝕄) ⊢ MayWait (c : Thread nD τ) s () O :=
  MayOwe.of_cut (L := lvSet) (lev := lv) n (fun p hp => by rw [Finset.mem_singleton.mp hp]; exact mem_lvSet c s ())
    (fun g u hg => by obtain ⟨d, k, rfl, _⟩ := hO g u hg; exact mem_lvSet d _ u)
    (fun p hp => by rw [Finset.mem_singleton.mp hp]; exact hs.le)
    (fun g u hg => by obtain ⟨d, k, rfl, h⟩ := hO g u hg; exact h)

omit [FloatOps F] in
/-- The staging semaphores may be waited for with everything still owed. -/
theorem mayWait_stage (c : Dev nD) (s : SemLoc sig) (h0 : s ≠ csem 0) (h2 : s ≠ csem 2) (O : CellTallies nD τ sig Unit) (hO : O = owed₀ σ c ∨ O = 0) :
    (levAts lvSet lv : sProp 𝕄) ⊢ MayWait (c : Thread nD τ) s () O := by
  refine mayWait_of c s 0 (by unfold lv; rw [if_neg h0, if_neg h2]) O fun g u hg => ?_
  rcases hO with rfl | rfl
  · rcases owed₀_pos σ hg with rfl | rfl <;> exact ⟨_, _, rfl, by rw [lv_cell]; decide⟩
  · exact absurd hg (Nat.lt_irrefl 0)

omit [FloatOps F] in
/-- At its barrier a device owes only the receive credit of its target. -/
theorem mayWait_bar (c : Dev nD) : (levAts lvSet lv : sProp 𝕄) ⊢ MayWait (c : Thread nD τ) (csem 0) () (tallyAt (cell (σ c) 2) () N) :=
  mayWait_of c _ 1 (lv_cell c 0) _ fun g u hg => by
    rw [tally_pos hg]; exact ⟨_, _, rfl, by rw [lv_cell]; decide⟩

end Cert.Proof

end
-- ==== Proof.Steps.lean ====
/-
One rule for each kind of step that the kernel takes, for a routing `σ`: reading a word of the table, handing the
result buffer to the source, sending the block to the target, waiting at one of the three cells, closing a cell.
-/
module

public import proofs.«01_k».proof.Proof.Schedule

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the logic. -/
local notation "𝕄" => MT nD τ sig Unit (Elt F) ℕ UU ℕ

variable (m : (ℓ : Loc nD τ sig) → Buf (Elt F) ℓ) (σ : Routing)

abbrev 𝒱₀ : Variants := Variants.none

/-- What every device knows of all the cells, under the names `K` of their invariants. -/
def records (K : Dev nD × Fin 3 → ℕ) : sProp 𝕄 :=
  iprop((bigSep Finset.univ fun ck : Dev nD × Fin 3 => cellInv ER (sched m σ) (K ck) (cell ck.1 ck.2))
    ∗ bigSep Finset.univ fun ck : Dev nD × Fin 3 => reached ER (cell ck.1 ck.2) 0)

omit [FloatOps F] in
instance records_persistent (K : Dev nD × Fin 3 → ℕ) : BI.Persistent (records m σ K) := by unfold records; infer_instance

omit [FloatOps F] in
theorem records_at (K : Dev nD × Fin 3 → ℕ) (c : Dev nD) (k : Fin 3) :
    records m σ K ⊢ iprop(cellInv ER (sched m σ) (K (c, k)) (cell c k) ∗ reached ER (cell c k) 0) := by
  unfold records
  exact BI.sep_mono (bigSep_elim (Finset.mem_univ (c, k))) (bigSep_elim (Finset.mem_univ (c, k)))

/-! ## Reading the table -/

omit [FloatOps F] in
/-- The one-word rectangle at offset `j` of the table reads its word `j`. -/
theorem read_word (o : Fin 1 → ℕ) (h : ∀ a, o a + S1.size a ≤ S4.size a) (j : Fin 4) (hj : o 0 = j.val)
    (hn : 0 < (Rect.unit (s := S4) o S1.size h).shape.numel) :
    ((tM : Memref sig .tc .smem S4 .i32).access (Rect.unit (s := S4) o S1.size h) : View sig .tc _ _ _).read (Elt F) (table σ) (Shape.Idx.first hn)
      = words σ j := by
  refine congrArg (words σ) (Fin.ext ?_)
  show o 0 + _ = j.val
  rw [hj]
  rfl

/-! ## Amounts -/

/-- What the send cell and the receive cell get is what a copy of the whole block credits. -/
theorem due_left : (xM : Memref sig .tc .vmem S1x256x256 .f32).view.dmaCredit = due 1 := show _ = N by rfl
theorem due_landed : (oM : Memref sig .tc .vmem S1x256x256 .f32).view.dmaCredit = due 2 := show _ = N by rfl

/-! ## The other steps -/

section Steps

variable (K : Dev nD × Fin 3 → ℕ) (c : Dev nD)

/-- The signal to the source `n = σ⁻¹ c` hands it the result buffer of `c`. -/
theorem wp_hand {α : Type} {Q : α → sProp 𝕄}
    {k : PUnit → Prog (TpuEff nD τ sig (Elt F) Λ₀ .tc) α} (n : Dev nD) (hn : n = σ.symm c) (W : Waits sig Unit)
    (f : Buf (Elt F) ((oM : Memref sig .tc .vmem S1x256x256 .f32).view.loc (c : Thread nD τ))) :
    iprop(records m σ K ∗ resPts c f ∗ owes (c : Thread nD τ) (owed₀ σ c) W ∗ dutyTok ER (cell (σ.symm c) 0) 0 ())
      ⊢ iprop((owes (c : Thread nD τ) (tallyAt (cell (σ c) 2) () N) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32 : BitVec 32).toInt) k) Q) := by
  subst hn
  rw [show (1#32 : BitVec 32).toInt = ((1 : ℕ) : Int) from rfl]
  iintro ⟨#HR, Hres, HO, Ht⟩ Hk
  ihave #HB := (records_at m σ K (σ.symm c) 0) $$ HR
  ihave #HV := (records_at m σ K c 2) $$ HR
  icases HB with ⟨#HBi, #HBr⟩
  icases HV with ⟨-, #HVr⟩
  iapply (Rounds.wp_signal 𝒱₀ ER (sched m σ) (c : Thread nD τ) none (dst := (σ.symm c : Thread nD τ)) (κ := K (σ.symm c, 0))
      (d := ()) (by rw [duties_cell m σ (σ.symm c) 0]; exact Finset.mem_singleton_self _) ((amount_cell m σ (σ.symm c) 0).trans rfl) () (tallyAt (cell (σ c) 2) () N) rfl)
    $$ [HO Ht Hres]
  · isplitr; · iexact HBi
    isplitl [HO]; · iexact HO
    isplitl [Ht]; · iexact Ht
    isplitl [Hres]
    · rw [payload_cell m σ (σ.symm c) 0]; dsimp only [brings]; rw [σ.apply_symm_apply c]
      isplitl [Hres]; · iexists f; iexact Hres
      iexact HVr
    · iexact HBr
  iexact Hk

/-- The copy to the target `n = σ c`, whose result buffer the device holds. -/
theorem wp_copy {α : Type} {Q : α → sProp 𝕄}
    {k : PUnit → Prog (TpuEff nD τ sig (Elt F) Λ₀ .tc) α} (n : Dev nD) (hn : n = σ c) {hsc : (oM : Memref sig (Dev.tc n : Thread nD τ).2.kind .vmem S1x256x256 .f32).view.ref.isScScratch = false}
    {hsrc : (xM : Memref sig .tc .vmem S1x256x256 .f32).view.WordExact} {hdst : (oM : Memref sig .tc .vmem S1x256x256 .f32).view.WordExact}
    {hsem : DmaTarget.Typed .vmem (.dma recvS) (.remote (Dev.tc n : Thread nD τ) (oM : Memref sig .tc .vmem S1x256x256 .f32) (.dma sendS) hsc)}
    (fd : Buf (Elt F) ((oM : Memref sig .tc .vmem S1x256x256 .f32).view.loc (σ c : Thread nD τ))) (W : Waits sig Unit) :
    iprop(records m σ K ∗ ownPts m c ∗ resPts (σ c) fd ∗ owes (c : Thread nD τ) (tallyAt (cell (σ c) 2) () N) W
        ∗ dutyTok ER (cell c 1) 0 () ∗ dutyTok ER (cell (σ c) 2) 0 ())
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sendS) hsc) (.dma recvS) hsrc hdst hsem) k) Q) := by
  subst hn
  iintro ⟨#HR, Hx, Ho, HO, HtS, HtV⟩ Hk
  ihave #HS := (records_at m σ K c 1) $$ HR
  ihave #HV := (records_at m σ K (σ c) 2) $$ HR
  icases HS with ⟨#HSi, #HSr⟩
  icases HV with ⟨#HVi, #HVr⟩
  unfold ownPts resPts
  iapply (Rounds.wp_send_pointsTo 𝒱₀ ER (sched m σ) (c : Thread nD τ) none (κ₁ := K (c, 1)) (κ₂ := K (σ c, 2))
      (r₁ := 0) (r₂ := 0) (d₁ := ()) (d₂ := ()) (fd := fd)
      (by rw [duties_cell m σ c 1]; exact Finset.mem_singleton_self _) (by rw [duties_cell m σ (σ c) 2]; exact Finset.mem_singleton_self _)
      () () N rfl ((amount_cell m σ c 1).trans rfl) ((amount_cell m σ (σ c) 2).trans rfl) 0 (by rw [zero_add]) (W := W)
      (by rw [payload_cell m σ c 1]; exact BI.Entails.refl _)
      (by rw [payload_cell m σ (σ c) 2]; dsimp only [brings]; unfold resPts; rw [copied_eq, σ.symm_apply_apply c])) $$ [Hx Ho HO HtS HtV]
  · isplitr; · iexact HSi
    isplitr; · iexact HVi
    isplitl [Hx]; · iexact Hx
    isplitl [Ho]; · iexact Ho
    isplitl [HO]; · iexact HO
    isplitl [HtS]; · iexact HtS
    isplitr; · iexact HSr
    isplitl [HtV]; · iexact HtV
    iexact HVr
  iexact Hk

/-- A wait for all that cell `j` receives; it gives what the cell brings. -/
theorem wp_await {α : Type} {Q : α → sProp 𝕄}
    {k : PUnit → Prog (TpuEff nD τ sig (Elt F) Λ₀ .tc) α} (j : Fin 3) {w : TpuEff nD τ sig (Elt F) Λ₀ .tc PUnit} {n : ℕ} (hn : n = due j)
    (hw : ∀ Kt : PUnit → sProp 𝕄, wpE (defs₀ (F := F)) 𝒱₀ (c : Thread nD τ) none Set.univ w Kt = waitSpec (c : Thread nD τ) Set.univ (csem j) n Kt)
    (O : CellTallies nD τ sig Unit) (W : Waits sig Unit) :
    iprop(records m σ K ∗ cred (tallyAt (cell c j) () n) ∗ owes (c : Thread nD τ) O W ∗ MayWait (c : Thread nD τ) (csem j) () O
        ∗ atPos ER (cell c j) 0 ∅ 0)
      ⊢ iprop(((owes (c : Thread nD τ) O (insert (csem j, ()) W) ∗ atPos ER (cell c j) (0 + 1) ∅ 0 ∗ brings m σ c j)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, Hc, HO, Hm, Hat⟩ Hk
  ihave #HC := (records_at m σ K c j) $$ HR
  icases HC with ⟨#HI, -⟩
  iapply (Rounds.wp_wait_rest_token 𝒱₀ ER (sched m σ) (c : Thread nD τ) none (κ := K (c, j)) hw (Set.mem_univ _) ()
      (O := O) (W := W) (R := 0) (m := 0) (T := ∅) (by rw [expect_cell m σ c j, Nat.zero_add, hn])) $$ [Hc HO Hm Hat]
  · isplitr; · iexact HI
    isplitl [Hc]; · iexact Hc
    isplitl [HO]; · iexact HO
    isplitl [Hm]; · iexact Hm
    iexact Hat
  iintro ⟨HO, Hat, -, Hpay⟩
  iapply Hk
  isplitl [HO]; · iexact HO
  isplitl [Hat]; · iexact Hat
  iapply (Entails.of_eq (rest_cell m σ c j)); iexact Hpay

omit [FloatOps F] in
/-- A cell whose one round is over closes with its counter at zero. -/
theorem close_cell (j : Fin 3) : iprop(records m σ K ∗ atPos ER (cell c j) (0 + 1) ∅ 0) ⊢ iprop(|={Set.univ}=> semVal (cell c j) 0) := by
  iintro ⟨#HR, Hat⟩
  ihave #HC := (records_at m σ K c j) $$ HR
  icases HC with ⟨#HI, -⟩
  iapply (Rounds.cell_close ER (sched m σ) (Set.mem_univ (K (c, j))) (fun h => h) (R := 0 + 1) (duties_later m σ (cell c j)))
  isplitr; · iexact HI
  iexact Hat

end Steps

end Cert.Proof

end
-- ==== Proof.Body.lean ====
/-
The kernel on one device, step by step, for a table that describes the routing `σ`: from the resources the device
starts with, it ends with the block of its source `σ⁻¹ c` in the result buffer and its three cells closed at zero.
-/
module

public import proofs.«01_k».proof.Proof.Steps
public import proofs.«01_k».proof.Proof.Gen.KernelIdeal.Points
public import Idealize.ShloMosaic.Lib.Pipeline.Value

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the logic. -/
local notation "𝕄" => MT nD τ sig Unit (Elt F) ℕ UU ℕ

variable (m : (ℓ : Loc nD τ sig) → Buf (Elt F) ℓ) (σ : Routing)

/-! ## What a device starts with and ends with -/

/-- The tokens of the payments that the device makes: to its source's barrier, to its own send cell, to its target's receive cell. -/
def payToks (c : Dev nD) : sProp 𝕄 :=
  iprop(dutyTok ER (cell (σ.symm c) 0) 0 () ∗ dutyTok ER (cell c 1) 0 () ∗ dutyTok ER (cell (σ c) 2) 0 ())

/-- The cells' records under some names, the device at the start of its three cells, and its tokens. -/
def ghost (c : Dev nD) : sProp 𝕄 :=
  iprop(∃ K : Dev nD × Fin 3 → ℕ, records m σ K ∗ (bigSep Finset.univ fun k : Fin 3 => atPos ER (cell c k) 0 ∅ 0) ∗ payToks σ c)

/-- With it, the credit that others owe it. -/
def start (c : Dev nD) : sProp 𝕄 :=
  iprop(ghost m σ c ∗ cred (tallyAt (cell c 0) () 1) ∗ cred (tallyAt (cell c 2) () N) ∗ levAts lvSet lv)

/-- At the end its three counters are its own again, at zero. -/
def done (c : Dev nD) : sProp 𝕄 := iprop(semVal (cell c 0) 0 ∗ semVal (cell c 1) 0 ∗ semVal (cell c 2) 0)

/-- The contents and resources around the one call of the kernel. -/
def dats (_ : Fin 1) (c : Dev nD) : Dat τ (Elt F) Unit ℕ UU ℕ cfg0 c where
  A w := m ((cfg0.win w).arr.view.loc (c : Thread nD τ))
  after w _ := match w with
    | ⟨0, _⟩ => own m c
    | ⟨1, _⟩ => m ((c : Thread nD τ).loc main_arg1)
    | ⟨2, _⟩ => own m (σ.symm c)
  Φ t := match t with
    | ⟨0, _⟩ => start m σ c
    | ⟨_ + 1, _⟩ => done c
  q _ := fullShare
  owed t := match t with
    | ⟨0, _⟩ => owed₀ σ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-! ## The body -/

/-- A staging buffer with contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start m σ c ∗ (dats m σ 0 c).owesAt () t0_0.castSucc
    ∗ (∃ d, stg c cc0_stg0_0 ((dats m σ 0 c).before (0 : Fin 3) t0_0 d))
    ∗ (∃ d, stg c cc0_stg1_0 ((dats m σ 0 c).before (1 : Fin 3) t0_0 d))
    ∗ (∃ d, stg c cc0_stg2_0 ((dats m σ 0 c).before (2 : Fin 3) t0_0 d)))

def bodyPost (c : Dev nD) : sProp 𝕄 :=
  iprop(done c ∗ (dats m σ 0 c).owesAt () t0_0.succ
    ∗ stg c cc0_stg0_0 (own m c) ∗ stg c cc0_stg1_0 (m ((c : Thread nD τ).loc main_arg1)) ∗ stg c cc0_stg2_0 (own m (σ.symm c)))

/-- The block and the table are staged as they are. -/
theorem before_x (c : Dev nD) (d) : (dats m σ 0 c).before (0 : Fin 3) t0_0 d = own m c := by
  unfold Dat.before
  rw [if_pos (fetch0_0 t0_0)]
  exact funext fun i => congrArg (own m c) (funext fun a => Fin.ext (Window.rect_emb_val_of_index_zero win0_0 t0_0 a (by decide +revert) i))
theorem before_table (c : Dev nD) (d) : (dats m σ 0 c).before (1 : Fin 3) t0_0 d = m ((c : Thread nD τ).loc main_arg1) := by
  unfold Dat.before
  rw [if_pos (fetch0_1 t0_0)]
  exact funext fun i => congrArg (m ((c : Thread nD τ).loc main_arg1)) (funext fun a => Fin.ext (Window.rect_emb_val_of_index_zero win0_1 t0_0 a (by decide +revert) i))

set_option maxHeartbeats 800000 in
/-- The steps of the kernel in program order. -/
theorem sound_body (c : Dev nD) (hT : m ((c : Thread nD τ).loc main_arg1) = table σ) (Kt : PUnit → sProp 𝕄) :
    iprop(bodyPre m σ c ∗ (bodyPost m σ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) cc0_scratch0 cc0_scratch1) Kt := by
  simp only [cc0_body_eq_skeleton]; unfold cc0_body_skel
  simp only [semSignalWord, semWaitWord, smemLoad, smemLoadElt, Prog.lift, Prog.bind_op, Prog.bind_ret, Prog.pure_eq_ret, wp_deviceId]
  unfold bodyPre start ghost payToks
  simp only [before_x, before_table, hT, bigSep_three]
  iintro ⟨⟨⟨⟨%K, #HR, ⟨HaB, HaS, HaV⟩, HtB, HtS, HtV⟩, HcB, HcV, #Hlev⟩, Ho, ⟨%d0, %g0, %hg0, Hx⟩, ⟨%d1, %g1, %hg1, Ht⟩, ⟨%d2, %g2, -, Hout⟩⟩, Hk⟩
  subst hg0 hg1
  unfold Dat.owesAt Pipeline.owesWithin
  icases Ho with ⟨%W, %hW, HO⟩
  rw [show (dats m σ 0 c).owed t0_0.castSucc = owed₀ σ c from rfl]
  -- its own word of the table, which names the target
  iapply (wp_load_rect 𝒱₀ (c : Thread nD τ) none Set.univ (m := tM) (r := Rect.unit (s := S4) (k0_off1 c) S1.size (k0_off1_inb c)) (Finset.subset_univ _)) $$ Ht; iintro Ht
  rw [read_word σ (k0_off1 c) (k0_off1_inb c) c (congrFun (k0_off1_eq c) 0)]
  simp only [wp_assume_of _ _ _ _ (d := k0_chk2.dec _) (target_lt σ c)]
  -- all four words, among which it finds its source
  iapply (wp_load_rect 𝒱₀ (c : Thread nD τ) none Set.univ (m := tM) (r := Rect.unit (s := S4) ![0] S1.size inb_S4_S1_0) (Finset.subset_univ _)) $$ Ht; iintro Ht
  rw [read_word σ ![0] inb_S4_S1_0 0 rfl]
  iapply (wp_load_rect 𝒱₀ (c : Thread nD τ) none Set.univ (m := tM) (r := Rect.unit (s := S4) ![1] S1.size inb_S4_S1_1) (Finset.subset_univ _)) $$ Ht; iintro Ht
  rw [read_word σ ![1] inb_S4_S1_1 1 rfl]
  iapply (wp_load_rect 𝒱₀ (c : Thread nD τ) none Set.univ (m := tM) (r := Rect.unit (s := S4) ![2] S1.size inb_S4_S1_2) (Finset.subset_univ _)) $$ Ht; iintro Ht
  rw [read_word σ ![2] inb_S4_S1_2 2 rfl]
  iapply (wp_load_rect 𝒱₀ (c : Thread nD τ) none Set.univ (m := tM) (r := Rect.unit (s := S4) ![3] S1.size inb_S4_S1_3) (Finset.subset_univ _)) $$ Ht; iintro Ht
  rw [read_word σ ![3] inb_S4_S1_3 3 rfl]
  simp only [wp_assume_of _ _ _ _ (d := k0_chk1.dec _ _ _ _ _) (k0_chk1_all c (words σ 0) (words σ 1) (words σ 2) (words σ 3))]
  -- the result buffer goes to the source
  ihave Hout' := (Entails.of_eq (resPts_eq c g2).symm) $$ Hout
  iapply (wp_hand m σ K c _ (source_dev σ c (k0_chk1_all _ _ _ _ _)) W g2) $$ [Hout' HO HtB]
  · isplitr; · iexact HR
    isplitl [Hout']; · iexact Hout'
    isplitl [HO] <;> iassumption
  iintro HO
  -- the target's result buffer comes
  iapply (wp_await m σ K c 0 rfl (wpE_semWait_eq 𝒱₀ (c : Thread nD τ) none Set.univ) (tallyAt (cell (σ c) 2) () N) W) $$ [HcB HO HaB]
  · isplitr; · iexact HR
    isplitl [HcB]; · iexact HcB
    isplitl [HO]; · iexact HO
    isplitr; · iapply (mayWait_bar σ c); iexact Hlev
    iexact HaB
  dsimp only [brings]
  iintro ⟨HO, HaB, ⟨%fd, Hd⟩, -⟩
  -- the block goes there
  ihave Hx' := (Entails.of_eq (ownPts_eq m c).symm) $$ Hx
  iapply (wp_copy m σ K c _ (target_dev σ c (target_lt σ c)) fd _) $$ [Hx' Hd HO HtS HtV]
  · isplitr; · iexact HR
    isplitl [Hx']; · iexact Hx'
    isplitl [Hd]; · iexact Hd
    isplitl [HO]; · iexact HO
    isplitl [HtS] <;> iassumption
  iintro ⟨HcS, HO⟩
  -- it has left
  iapply (wp_await m σ K c 1 due_left (wpE_waitDma2_eq 𝒱₀ (c : Thread nD τ) none Set.univ) 0 _) $$ [HcS HO HaS]
  · isplitr; · iexact HR
    isplitl [HcS]; · iexact HcS
    isplitl [HO]; · iexact HO
    isplitr; · rw [MayWait_zero]; iempintro
    iexact HaS
  dsimp only [brings]
  iintro ⟨HO, HaS, Hx⟩
  -- the source's block has arrived
  iapply (wp_await m σ K c 2 due_landed (wpE_waitDma2_eq 𝒱₀ (c : Thread nD τ) none Set.univ) 0 _) $$ [HcV HO HaV]
  · isplitr; · iexact HR
    isplitl [HcV]; · iexact HcV
    isplitl [HO]; · iexact HO
    isplitr; · rw [MayWait_zero]; iempintro
    iexact HaV
  dsimp only [brings]
  iintro ⟨HO, HaV, Hout⟩
  -- the three cells close
  imod (close_cell m σ K c 0) $$ [HaB] with HzB
  · isplitr; · iexact HR
    iexact HaB
  imod (close_cell m σ K c 1) $$ [HaS] with HzS
  · isplitr; · iexact HR
    iexact HaS
  imod (close_cell m σ K c 2) $$ [HaV] with HzV
  · isplitr; · iexact HR
    iexact HaV
  rw [wp_ret]; imodintro
  iapply Hk
  unfold bodyPost done Dat.owesAt Pipeline.owesWithin
  rw [show (dats m σ 0 c).owed t0_0.succ = 0 from rfl]
  isplitl [HzB HzS HzV]
  · isplitl [HzB]; · iexact HzB
    isplitl [HzS] <;> iassumption
  isplitl [HO]
  · iexists (insert (csem 2, ()) (insert (csem 1, ()) (insert (csem 0, ()) W)))
    isplitr; · ipureintro; exact fun _ _ => Or.inl trivial
    iexact HO
  isplitl [Hx]
  · iexists _; isplitr; · (ipureintro; rfl)
    iapply (Entails.of_eq (ownPts_eq m c)); iexact Hx
  isplitl [Ht]
  · iexists _; isplitr; · (ipureintro; exact hT.symm)
    iexact Ht
  iexists _; isplitr; · (ipureintro; rfl)
  iapply (Entails.of_eq (resPts_eq c _)); iexact Hout

set_option maxRecDepth 4000 in
/-- What the launch asks of the body, for a table that describes `σ` on every device. -/
theorem body_obligation (hT : ∀ c : Dev nD, m ((c : Thread nD τ).loc main_arg1) = table σ) (c : Dev nD) :
    BodyObligation (dats (F := F) m σ 0 c) (defs₀ (F := F)) 𝒱₀ () Set.univ := fun t => by
  rw [fin_N0 t]
  rw [bigSep_W0, bigSep_W0]
  simp only [owns_whole_eq]
  show bodyPre m σ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) cc0_scratch0 cc0_scratch1) (fun _ => bodyPost m σ c)
  iintro H
  iapply (sound_body m σ c (hT c) fun _ => bodyPost m σ c)
  isplitl; · iexact H
  iintro H; iexact H

end Cert.Proof

end
-- ==== Proof.Launch.lean ====
/-
Before the kernels start: every semaphore counter becomes a cell under its invariant, and the tokens of the cells are
dealt to the devices that pay: a barrier's token to the device's target, a receive cell's token to its source.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the logic. -/
local notation "𝕄" => MT nD τ sig Unit (Elt F) ℕ UU ℕ

variable (m : (ℓ : Loc nD τ sig) → Buf (Elt F) ℓ) (σ : Routing)

/-! ## The cells of all devices -/

/-- The kernel's own two semaphores. -/
abbrev osem : Fin 2 → SemLoc sig := fun | 0 => csem 1 | 1 => csem 2

theorem ownSemFacts : Pipeline.OwnSemFacts cfg0.spec osem := by decide

theorem cells_injective : Function.Injective fun ck : Dev nD × Fin 3 => cell ck.1 ck.2 :=
  fun _ _ h => Prod.ext (cell_inj h).1 (cell_inj h).2

def cells : Finset (GSem nD τ sig) := Finset.univ.map ⟨_, cells_injective⟩

/-- The one token of each. -/
def tokens : Finset (GSem nD τ sig × ℕ × Unit) :=
  Finset.univ.map ⟨fun ck : Dev nD × Fin 3 => (cell ck.1 ck.2, 0, ()), fun _ _ h => cells_injective (congrArg Prod.fst h)⟩

def u₀ : UU := (initOf (Pipeline.cells cfgs cellOf_inj) (Pipeline.launchToks cfgs cellOf_inj), initOf cells tokens)

/-- What a device gets of its own three cells. -/
def dealt (c : Dev nD) : sProp 𝕄 :=
  iprop((bigSep Finset.univ fun k : Fin 3 => roundState ER (sched m σ) (cell c k) 0)
    ∗ (bigSep Finset.univ fun k : Fin 3 => iprop(atPos ER (cell c k) 0 ∅ 0 ∗ reached ER (cell c k) 0))
    ∗ bigSep Finset.univ fun k : Fin 3 => dutyTok ER (cell c k) 0 ())

omit [FloatOps F] in
theorem fund : BI.own (ER (initOf cells tokens)) ⊢ (|==> bigSep Finset.univ (dealt m σ) : sProp 𝕄) := by
  have hC (Φ : GSem nD τ sig → sProp 𝕄) : bigSep cells Φ = bigSep Finset.univ fun c : Dev nD => bigSep Finset.univ fun k : Fin 3 => Φ (cell c k) := by
    unfold cells; rw [bigSep_map, bigSep_univ_prod]; rfl
  have hT : bigSep tokens (fun x => (dutyTok ER x.1 x.2.1 x.2.2 : sProp 𝕄))
      = bigSep Finset.univ fun c : Dev nD => bigSep Finset.univ fun k : Fin 3 => dutyTok ER (cell c k) 0 () := by
    unfold tokens; rw [bigSep_map, bigSep_univ_prod]; rfl
  iintro HX
  imod (Rounds.fund ER (sched m σ) cells tokens) $$ HX with ⟨Hst, Hr, Hat, Htok⟩
  imodintro
  ihave Hst' := (Entails.of_eq (hC fun g => roundState ER (sched m σ) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The counters become cells -/

omit [FloatOps F] in
theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0) := by
  rw [Pipeline.ownSems0_eq_of_list c osem [0, 1] (by decide) (by decide)]; rfl

omit [FloatOps F] in
theorem unscopedSems0_eq (c : Dev nD) : (unscopedSems0 c : sProp 𝕄) = semVal (cell c 0) 0 := by
  unfold unscopedSems0; rw [bigSep_eq_bigSepL_of_eq [csem 0] (by decide) (by decide)]; rfl

omit [FloatOps F] in
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (cell c k) 0 : sProp 𝕄) := by
  rw [ownSems0_eq, unscopedSems0_eq, bigSep_three]
  iintro ⟨⟨HS, HV⟩, HB⟩
  isplitl [HB]; · iexact HB
  isplitl [HS] <;> iassumption

omit [FloatOps F] in
/-- On one device: its cells get their invariants. -/
theorem alloc (c : Dev nD) :
    iprop(Pipeline.ownSems0 (Ix := Unit) (Name := ℕ) (U := UU) (Lvl := ℕ) (Val := Elt F) (τ := τ) osem c ∗ unscopedSems0 c ∗ dealt m σ c)
      ⊢ |={Set.univ}=> iprop((bigSep Finset.univ fun k => iprop(∃ κ : ℕ, cellInv ER (sched m σ) κ (cell c k)))
          ∗ (bigSep Finset.univ fun k => iprop(atPos ER (cell c k) 0 ∅ 0 ∗ reached ER (cell c k) 0))
          ∗ bigSep Finset.univ fun k : Fin 3 => dutyTok ER (cell c k) 0 ()) := by
  unfold dealt
  iintro ⟨Hos, Hus, Hst, Hat, Htok⟩
  ihave Hv := (counters (F := F) c) $$ [Hos Hus]
  · isplitl [Hos] <;> iassumption
  imod (show iprop((bigSep Finset.univ fun k : Fin 3 => semVal (cell c k) 0) ∗ bigSep Finset.univ fun k : Fin 3 => roundState ER (sched m σ) (cell c k) 0)
      ⊢ (|={Set.univ}=> bigSep Finset.univ fun k => iprop(∃ κ : ℕ, cellInv ER (sched m σ) κ (cell c k)) : sProp 𝕄) from by
        rw [← bigSep_sep']
        exact (bigSep_mono fun k _ => (Rounds.body_intro ER (sched m σ) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the payers -/

omit [FloatOps F] in
/-- A barrier's token goes from device `σ⁻¹ c` to `c`, a receive cell's from `σ c` to `c`. -/
theorem deal :
    (bigSep Finset.univ fun c : Dev nD => bigSep Finset.univ fun k : Fin 3 => (dutyTok ER (cell c k) 0 () : sProp 𝕄))
      ⊢ bigSep Finset.univ fun c : Dev nD => payToks σ c := by
  simp only [bigSep_three]
  unfold payToks
  rw [bigSep_sep', bigSep_sep', bigSep_sep', bigSep_sep',
    bigSep_univ_equiv σ.symm (fun c : Dev nD => (dutyTok ER (cell c 0) 0 () : sProp 𝕄)),
    bigSep_univ_equiv σ (fun c : Dev nD => (dutyTok ER (cell c 2) 0 () : sProp 𝕄))]

omit [FloatOps F] in
theorem bigSep_with {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem regroup :
    (bigSep Finset.univ fun c : Dev nD => iprop((bigSep Finset.univ fun k => iprop(∃ κ : ℕ, cellInv ER (sched m σ) κ (cell c k)))
          ∗ (bigSep Finset.univ fun k => iprop(atPos ER (cell c k) 0 ∅ 0 ∗ reached ER (cell c k) 0))
          ∗ bigSep Finset.univ fun k : Fin 3 => dutyTok ER (cell c k) 0 ()) : sProp 𝕄)
      ⊢ bigSep Finset.univ (ghost m σ) := by
  rw [bigSep_sep', bigSep_sep', ← bigSep_univ_prod (fun ck : Dev nD × Fin 3 => iprop(∃ κ : ℕ, cellInv ER (sched m σ) κ (cell ck.1 ck.2))),
    bigSep_congr (s := Finset.univ) (fun (c : Dev nD) _ => bigSep_sep' Finset.univ (fun k : Fin 3 => (atPos ER (cell c k) 0 ∅ 0 : sProp 𝕄)) (fun k => reached ER (cell c k) 0)),
    bigSep_sep', ← bigSep_univ_prod (fun ck : Dev nD × Fin 3 => (reached ER (cell ck.1 ck.2) 0 : sProp 𝕄))]
  iintro ⟨HI, ⟨Hat, #HR⟩, Htok⟩
  ihave HK := (BI.bigSep_exists_pi Finset.univ (fun (ck : Dev nD × Fin 3) (κ : ℕ) => (cellInv ER (sched m σ) κ (cell ck.1 ck.2) : sProp 𝕄))) $$ HI
  icases HK with ⟨%K, #HI⟩
  ihave Htk := (deal (F := F) σ) $$ Htok
  iapply (bigSep_with (R := records m σ K)
    (Φ := fun c => iprop((bigSep Finset.univ fun k : Fin 3 => atPos ER (cell c k) 0 ∅ 0) ∗ payToks σ c)) fun c => by
      unfold ghost
      iintro ⟨H1, H2⟩
      iexists K
      isplitl [H1] <;> iassumption)
  rw [bigSep_sep']
  isplitr
  · unfold records; isplitl; · iexact HI
    iexact HR
  isplitl [Hat] <;> iassumption

omit [FloatOps F] in
/-- The step before the start, of all devices at once. -/
theorem setup : (bigSep Finset.univ fun c =>
      iprop(Pipeline.ownSems0 (Ix := Unit) (Name := ℕ) (U := UU) (Lvl := ℕ) (Val := Elt F) (τ := τ) osem c ∗ unscopedSems0 c ∗ dealt m σ c) : sProp 𝕄)
    ⊢ |={Set.univ}=> bigSep Finset.univ (ghost m σ) :=
  ((bigSep_mono fun c _ => alloc m σ c).trans (bigSep_fupd _ _)).trans (BI.fupd_mono (regroup m σ))

/-! ## What the devices are owed at the start -/

/-- Device `d` owes the barrier of `c` a unit if `c` is its source, and nothing else at a barrier. -/
theorem owed_bar (d c : Dev nD) : owed₀ σ d (cell c 0) () = if d = σ c then 1 else 0 := by
  unfold owed₀
  rw [Pi.add_apply, Finsupp.add_apply, tallyAt_ne_cell (fun h => absurd (cell_inj h).2 (by decide)), Finsupp.zero_apply, Nat.zero_add, tallyAt_apply]
  exact if_congr ⟨fun h => by rw [(cell_inj h.1).1, σ.apply_symm_apply], fun h => by subst h; rw [σ.symm_apply_apply]; exact ⟨rfl, rfl⟩⟩ rfl rfl

/-- It owes the receive cell of `c` a block's credit if `c` is its target. -/
theorem owed_recv (d c : Dev nD) : owed₀ σ d (cell c 2) () = if d = σ.symm c then N else 0 := by
  unfold owed₀
  rw [Pi.add_apply, Finsupp.add_apply, tallyAt_apply, tallyAt_ne_cell (fun h => absurd (cell_inj h).2 (by decide)), Finsupp.zero_apply, Nat.add_zero]
  exact if_congr ⟨fun h => by rw [(cell_inj h.1).1, σ.symm_apply_apply], fun h => by subst h; rw [σ.apply_symm_apply]; exact ⟨rfl, rfl⟩⟩ rfl rfl

/-- What one device `e` alone owes a cell is what the cell is owed at the start. -/
theorem owed_cell (g : GSem nD τ sig) (e : Dev nD) (n : ℕ) (h : ∀ d, owed₀ σ d g () = if d = e then n else 0) :
    tallyOn g (launchCredit (Pipeline.owing (owed₀ σ)) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

omit [FloatOps F] in
theorem credits (c : Dev nD) :
    (Pipeline.launchCred (owed₀ σ) c : sProp 𝕄) ⊢ iprop(cred (tallyAt (cell c 0) () 1) ∗ cred (tallyAt (cell c 2) () N)) := by
  unfold Pipeline.launchCred
  rw [bigSep_univ_at _ (csem 0), owed_cell σ (cell c 0) (σ c) 1 fun d => owed_bar σ d c]
  refine sep_mono_right ?_
  rw [← owed_cell σ (cell c 2) (σ.symm c) N fun d => owed_recv σ d c]
  exact bigSep_elim (Finset.mem_erase.mpr ⟨by decide, Finset.mem_univ _⟩)

end Cert.Proof

end
-- ==== Proof.Run.lean ====
/-
The run of all four devices, for a table that describes the routing `σ` on every device: it ends, the result of each
device is the block of its source, the arguments are as they were and every semaphore counter is zero.
-/
module

public import proofs.«01_k».proof.Proof.Launch
public import Idealize.ShloMosaic.Lib.Pipeline.ValueKit.Geometry
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the logic. -/
local notation "𝕄" => MT nD τ sig Unit (Elt F) ℕ UU ℕ

variable (m : (ℓ : Loc nD τ sig) → Buf (Elt F) ℓ) (σ : Routing)
variable (ρ : Dev nD → PrngReg)

/-! ## The ends of the launch -/

theorem share_eq (c : Dev nD) (w : Fin cfg0.W) : (dats m σ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts lvSet lv
        ∗ Pipeline.launchCred (owed₀ σ) c ∗ prngReg c (ρ c) ∗ ghost m σ c)
      ⊢ |={Set.univ}=> iprop(start m σ c ∗ emp) := by
  iintro ⟨-, Hlev, Hcr, -, HG⟩
  ihave Hc := (credits (F := F) σ c) $$ Hcr
  icases Hc with ⟨H1, HN⟩
  imodintro
  unfold start
  isplitl
  · isplitl [HG]; · iexact HG
    isplitl [H1]; · iexact H1
    isplitl [HN]; · iexact HN
    iexact Hlev
  · iempintro

theorem entry (c : Dev nD) :
    iprop(start m σ c ∗ Pipeline.prefHeld Pipeline.Prefetch.none c (fun _ => fullShare.right) (fun k => k.elim0) ∗ Pipeline.scopedRest cfg0.spec c)
      ⊢ (dats m σ 0 c).Φ 0 := by
  rw [show (dats m σ 0 c).Φ 0 = start m σ c from rfl]
  iintro ⟨Hs, -, -⟩
  iexact Hs

theorem exit (c : Dev nD) :
    (dats m σ 0 c).Φ (Fin.last cfg0.N) ⊢ iprop(unscopedSems0 c ∗ Pipeline.ownSems0 osem c ∗ Pipeline.scopedRest cfg0.spec c) := by
  rw [show (dats m σ 0 c).Φ (Fin.last cfg0.N) = done c from rfl, scopedRest0_eq, ownSems0_eq, unscopedSems0_eq]
  unfold done
  iintro ⟨HzB, HzS, HzV⟩
  isplitl [HzB]; · iexact HzB
  isplitl [HzS HzV]
  · isplitl [HzS] <;> iassumption
  iempintro

theorem waits (c : Dev nD) : (levAts lvSet lv : sProp 𝕄) ⊢ Pipeline.cellsWaits cfgs (dats m σ) () 0 c :=
  Pipeline.cellsWaits_intro cfgs (dats m σ) () 0 c fun w s t =>
    mayWait_stage σ c _ (by fin_cases w <;> fin_cases s <;> decide) (by fin_cases w <;> fin_cases s <;> decide) _ (by
      rcases t with ⟨_ | _, ht⟩
      · exact Or.inl rfl
      · exact Or.inr rfl)

/-! ## What the arrays hold at the end -/

/-- The result array holds what the kernel left in the result buffer. -/
theorem result_eq (c : Dev nD) : (dats m σ 0 c).arrAt (2 : Fin 3) cfg0.N = own m (σ.symm c) :=
  (dats m σ 0 c).arrAt_eq_of_after_last (2 : Fin 3) t0_0 (by decide +kernel) (own m (σ.symm c)) fun _ => rfl

theorem block_eq (c : Dev nD) : (dats m σ 0 c).arrAt (0 : Fin 3) cfg0.N = m ((c : Thread nD τ).loc main_arg0) :=
  (dats (F := F) m σ 0 c).arrAt_in (0 : Fin 3) rfl _

theorem table_eq (c : Dev nD) : (dats m σ 0 c).arrAt (1 : Fin 3) cfg0.N = m ((c : Thread nD τ).loc main_arg1) :=
  (dats (F := F) m σ 0 c).arrAt_in (1 : Fin 3) rfl _

/-! ## The run -/

/-- Every device ends with its source's block, and with its arguments as they were. -/
def Routed (r : PUnit × MemSt nD τ sig (Elt F)) : Prop :=
  ∀ c : Dev nD, r.2.mem ((c : Thread nD τ).loc main_v1) = own m (σ.symm c)
    ∧ r.2.mem ((c : Thread nD τ).loc main_arg0) = m ((c : Thread nD τ).loc main_arg0)
    ∧ r.2.mem ((c : Thread nD τ).loc main_arg1) = m ((c : Thread nD τ).loc main_arg1)

set_option maxRecDepth 8000 in
/-- Every weakly fair execution of the four kernels on tables that describe `σ` ends so, with all counters at zero. -/
theorem run_main (hT : ∀ c : Dev nD, m ((c : Thread nD τ).loc main_arg1) = table σ) :
    θ_run defs (onTc (τ := τ) (main (F := F))) ⟨m, fun _ => 0, ρ⟩ (fun r => Routed m σ r ∧ r.2.sem = fun _ => 0) :=
  Pipeline.θ_run_region_owing_glob_pf (fun p => (cfgs p).toPCfg) (fun p => (cfgs p).toPCfg_adm) (dats m σ) () cellOf_inj (0 : Fin 1)
    winFacts0.to₀ ownSemFacts (Pipeline.PreFacts.none _) EP defs₀ 𝒱₀ m ρ main
    (hmain := fun _ => rfl)
    (hbody := body_obligation m σ hT) (hne := block_pos0) (harr := arr_whole0) (hstage := stage_whole0) (hshare := share_eq m σ)
    (hdistinct := winFacts0.arr_inj)
    (O₀ := owed₀ σ) (howed₀ := fun _ => rfl) (howedN := fun _ => rfl)
    (L := lvSet) (lv := lv) (hL := lvSet_of_ne) (hwaits := waits m σ)
    (G := dealt m σ) (G' := ghost m σ) (u₀ := u₀)
    (hu₀ := by
      unfold u₀
      iintro Hu
      ihave H := (ownU_pair _ _) $$ Hu
      icases H with ⟨HP, HX⟩
      imod (fund m σ) $$ HX with HG
      imodintro
      isplitl [HP] <;> iassumption)
    (hglob := setup m σ)
    (hA := fun _ _ => rfl) (hpf := fun _ k => k.elim0)
    (X := start m σ) (Y := fun c => unscopedSems0 c) (Z := fun _ => iprop(emp))
    (hX := start_intro m σ ρ) (hin := entry m σ) (hout := exit m σ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (2 : Fin 3)).trans (result_eq m σ c), ((h c).1 (0 : Fin 3)).trans (block_eq m σ c),
        ((h c).1 (1 : Fin 3)).trans (table_eq m σ c)⟩, sem_eq_zero hs fun c => (h c).2.2⟩)

end Cert.Proof

end
-- ==== Proof.Tables.lean ====
/-
A precondition says of one device's copy of `pi` that it equals four literal words. When those words are four different
device numbers they are the table of a permutation, and every device holds that table.
-/
module

public import proofs.«01_k».proof.Proof.Table
public import Idealize.ShloMosaic.Lib.StableHlo.Predicate

@[expose] public section

noncomputable section

namespace Cert.Proof

open Cert.KernelIdeal Cert.KernelIdeal.Gen
open Idealize.ShloMosaic Idealize.SL.Sem

/-- The four words are four different device numbers. -/
abbrev Names (lit : Fin 4 → BitVec 32) : Prop := (∀ j, (lit j).toNat < 4) ∧ ∀ j k, lit j = lit k → j = k

/-- The array `pi` holds the four words. -/
abbrev Holds (lit : Fin 4 → BitVec 32) (pi : IVec S4 32) : Prop := cmpi .eq pi (fun i => lit (S4.rowMajor i)) = fun _ => 1#1

variable {lit : Fin 4 → BitVec 32}

/-- Four different device numbers are the words of a permutation. -/
theorem Names.routing (h : Names lit) : ∃ σ : Routing, ∀ j, lit j = words σ j := by
  have hinj : Function.Injective fun j => (⟨(lit j).toNat, h.1 j⟩ : Fin 4) := fun j k e =>
    h.2 j k (BitVec.eq_of_toNat_eq (Fin.mk.inj e))
  refine ⟨Equiv.ofBijective _ (Finite.injective_iff_bijective.mp hinj), fun j => ?_⟩
  exact BitVec.eq_of_toNat_eq ((BitVec.toNat_ofNat _ _).trans (Nat.mod_eq_of_lt (lit j).isLt)).symm

/-- An array that holds the words of `σ` is the table of `σ`. -/
theorem Holds.eq_table {pi : IVec S4 32} {σ : Routing} (h : Holds lit pi) (hσ : ∀ j, lit j = words σ j) : pi = table σ := by
  funext i
  have e : pi i = lit (S4.rowMajor i) := StableHlo.Predicate.cmpi_eq_iff.mp (congrFun h i)
  refine e.trans ((hσ _).trans ?_)
  exact congrArg (words σ) (Fin.ext (Shape.rowMajor_val_one i))

/-- Devices that all hold four different device numbers hold the table of one permutation. -/
theorem routing_of {n : Nat} (pi : Fin n → IVec S4 32) (h : Names lit) (hp : ∀ c, Holds lit (pi c)) :
    ∃ σ : Routing, ∀ c, pi c = table σ :=
  h.routing.imp fun _ hσ c => (hp c).eq_table hσ

end Cert.Proof

end
-- ==== Proof.Frames.lean ====
/-
The frames. From any memory in which every device holds the same four different device numbers in `pi`, the kernel ends
without a fault, its arguments unchanged and every semaphore at zero, read with machine floats or with exact ones; and so
does the reference from any memory.
-/
module

public import proofs.«01_k».proof.Proof.Run
public import proofs.«01_k».proof.Proof.Tables
public import proofs.«01_k».proof.Proof.Gen.Kernel
public import proofs.«01_k».proof.Proof.Gen.ReferenceIdeal.Run
public import Idealize.ShloMosaic.PureOps.Ideal
public import Idealize.ShloMosaic.PureOps.BitExact

@[expose] public section

noncomputable section

namespace Cert.Proof

open Idealize.ShloMosaic Idealize.ShloMosaic.TcCoe Idealize.SL.Sem

section
open Cert.KernelIdeal Cert.KernelIdeal.Gen

/-- The run keeps the arguments and leaves every semaphore at zero. -/
theorem frame_of_table {F : FTy → Type} [FloatOps F] (lit : Fin 4 → BitVec 32) (h : Names lit)
    (m : (ℓ : Loc nD τ sig) → Buf (Elt F) ℓ) (ρ : Dev nD → PrngReg) (hp : ∀ c : Dev nD, Holds lit (m ((c : Thread nD τ).loc main_arg1))) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 := by
  obtain ⟨σ, hT⟩ := routing_of (fun c : Dev nD => m ((c : Thread nD τ).loc main_arg1)) h hp
  exact (θ_run defs _ _).mono (fun _ hr => ⟨fun c => (hr.1 c).2, hr.2⟩) (run_main m σ ρ hT)

end

section
open Cert.Kernel

/-- The kernel over machine floats is the same text: the same body under its one label, -/
theorem bodies_eq : defs₀ (F := Bits) = Cert.KernelIdeal.defs₀ := by
  refine congrArg Defs.onTc (funext fun l => ?_)
  match l with
  | ⟨0, _⟩ => rfl

/-- so the same table of bodies, -/
theorem defs_eq : defs (F := Bits) = Cert.KernelIdeal.defs := congrArg (Pipeline.defs Cert.KernelIdeal.pcfgs) bodies_eq

/-- and the same run. -/
theorem frame_kernel (lit : Fin 4 → BitVec 32) (h : Names lit) (m : (ℓ : Loc nD τ sig) → Buf (Elt Bits) ℓ) (ρ : Dev nD → PrngReg)
    (hp : ∀ c : Dev nD, Holds lit (m ((c : Thread nD τ).loc main_arg1))) :
    θ_run defs (onTc (τ := τ) (main (F := Bits))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (congrArg (fun D => θ_run D (onTc (τ := τ) (main (F := Bits))) ⟨m, fun _ => 0, ρ⟩ _) defs_eq).mpr (frame_of_table (F := Bits) lit h m ρ hp)

end

section
open Cert.ReferenceIdeal Cert.ReferenceIdeal.Gen

/-- The reference is one device's operations on whole arrays; it has no semaphore at all. -/
theorem frame_reference (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run defs _ _).mono (fun r hr => ⟨fun c => (hr c).2, sem_eq_zero_of_no_sems (by decide) r.2⟩) (Value.run m ρ)

end

end Cert.Proof

end
-- ==== Proof.Argsort.lean ====
/-
The reference on the table of a permutation `σ`: `argsort` gives the table of `σ⁻¹`, none of its words is negative, and
gathering along the first axis by it puts at place `c` of the result the piece that stands at place `σ⁻¹ c` of `x`.
-/
module

public import proofs.«01_k».proof.Proof.Table
public import proofs.«01_k».proof.Proof.Gen.ReferenceIdeal
public import Idealize.ShloMosaic.Lib.SortFacts
public import Idealize.ShloMosaic.Lib.Layout

@[expose] public section

noncomputable section

namespace Cert.Proof

open Cert.ReferenceIdeal Cert.ReferenceIdeal.Gen
open Idealize.ShloMosaic Idealize.SL.Sem

variable {α : Type}

/-- The words of device numbers compare as the numbers do. -/
theorem word_slt (a b : Fin 4) : (IntOp.cmpi .slt (BitVec.ofNat 32 a.val) (BitVec.ofNat 32 b.val) == 1#1) = decide (a < b) :=
  (by decide : ∀ a b : Fin 4, (IntOp.cmpi .slt (BitVec.ofNat 32 a.val) (BitVec.ofNat 32 b.val) == 1#1) = decide (a < b)) a b

/-- Sorting the positions by the numbers `σ` has there lists them as `σ⁻¹` does. -/
theorem sorted_at (σ : Routing) (j : Fin 4) : sortedFrom (fun k k' => decide (σ k < σ k')) j = σ.symm j := by
  have h : sortPositions 4 (fun k k' => decide (σ k < σ k')) = List.ofFn σ.symm := sortPositions_of_perm σ.symm
  simp only [sortedFrom, List.get_eq_getElem, h, List.getElem_ofFn]
  rfl

/-- `argsort` of the table of `σ` is the table of `σ⁻¹`. -/
theorem argsort_table (σ : Routing) : (Host.sort2 S4 0 comparator_i32_i32_d0 (table σ) (iotaInDim S4 32 0)).2 = table σ.symm := by
  funext j
  have hp (k : Fin 4) : (j.along (0 : Fin 1) k : S4.Idx) 0 = k := by rw [Shape.Idx.along_rank1]; rfl
  have h : (fun k k' : Fin 4 => comparator_i32_i32_d0 (table σ (j.along (0 : Fin 1) k), iotaInDim S4 32 0 (j.along (0 : Fin 1) k))
      (table σ (j.along (0 : Fin 1) k'), iotaInDim S4 32 0 (j.along (0 : Fin 1) k')) == 1#1) = fun k k' => decide (σ k < σ k') := by
    funext k k'
    simp only [comparator_i32_i32_d0, table]
    rw [hp k, hp k']
    exact word_slt (σ k) (σ k')
  refine (congrArg (fun b => iotaInDim S4 32 0 (j.along (0 : Fin 1) (sortedFrom b (j 0)))) h).trans ?_
  exact congrArg (fun p : Fin 4 => BitVec.ofNat 32 p.val) ((hp _).trans (sorted_at σ (j 0)))

/-- The index wrap leaves the table alone: no word of it is negative. -/
theorem wrap_table (σ : Routing) (t : IVec S4 32) :
    select (cmpi .slt (table σ) (broadcastInDim S4 ![] bcast_S_S4 (constantI S_ 32 0#32))) t (table σ) = table σ := by
  funext j
  have h : ∀ d : Fin 4, IntOp.cmpi .slt (BitVec.ofNat 32 d.val) 0#32 ≠ 1#1 := by decide
  exact if_neg (h (σ (j 0)))

/-- The place in `x` that a gather by the table of `σ` reads for place `j` of the result. -/
theorem gather_at (σ : Routing) (x : S4x256x256.Idx → α) (j k : S4x256x256.Idx) (h₀ : k 0 = σ (j 0)) (h₁ : k 1 = j 1) (h₂ : k 2 = j 2) :
    Host.gather gather_S4x256x256_S4x1_S4x256x256_12_0_n_n_0_1_1256256 x (broadcastInDim S4x1 ![0] bcast_S4_S4x1_0 (table σ)) j = x k := by
  refine congrArg x (funext fun a => Fin.ext ?_)
  have hw : ∀ d : Fin 4, min (BitVec.ofNat 32 d.val).toInt.toNat 3 = d.val := by decide
  match a with
  | ⟨0, _⟩ => exact (hw (σ (j 0))).trans (congrArg Fin.val h₀).symm
  | ⟨1, _⟩ => exact (Nat.zero_add _).trans (congrArg Fin.val h₁).symm
  | ⟨2, _⟩ => exact (Nat.zero_add _).trans (congrArg Fin.val h₂).symm

end Cert.Proof

end
-- ==== Proof.Value.lean ====
/-
The value. Device `c` of the kernel ends with the block of device `σ⁻¹ c`; block `c` of the reference's result is block
`σ⁻¹ c` of `x`. So where the devices hold the blocks of the reference's `x`, and the reference's table, the kernel's blocks
are those of the reference's result.
-/
module

public import proofs.«01_k».proof.Proof.Run
public import proofs.«01_k».proof.Proof.Tables
public import proofs.«01_k».proof.Proof.Argsort
public import proofs.«01_k».proof.Proof.Gen.ReferenceIdeal.Run
public import Idealize.ShloMosaic.PureOps.Ideal

@[expose] public section

noncomputable section

namespace Cert.Proof

open Idealize.ShloMosaic Idealize.ShloMosaic.TcCoe Idealize.SL.Sem

section
open Cert.ReferenceIdeal Cert.ReferenceIdeal.Gen
open Cert.KernelIdeal (S1x256x256)

/-- What the reference computes from `x` and the table `pi`. -/
def gathered {α : Type} (x : S4x256x256.Idx → α) (pi : IVec S4 32) : S4x256x256.Idx → α :=
  let order : IVec S4 32 := (Host.sort2 S4 0 comparator_i32_i32_d0 pi (iotaInDim S4 32 0)).2
  let zero : IVec S4 32 := broadcastInDim S4 ![] bcast_S_S4 (constantI S_ 32 0#32)
  let four : IVec S4 32 := broadcastInDim S4 ![] bcast_S_S4 (constantI S_ 32 4#32)
  Host.gather gather_S4x256x256_S4x1_S4x256x256_12_0_n_n_0_1_1256256 x
    (broadcastInDim S4x1 ![0] bcast_S4_S4x1_0 (select (cmpi .slt order zero) (addi order four) order))

/-- On the table of `σ` that is a gather by the table of `σ⁻¹`. -/
theorem gathered_table {α : Type} (x : S4x256x256.Idx → α) (σ : Routing) :
    gathered x (table σ) = Host.gather gather_S4x256x256_S4x1_S4x256x256_12_0_n_n_0_1_1256256 x
      (broadcastInDim S4x1 ![0] bcast_S4_S4x1_0 (table σ.symm)) := by
  unfold gathered
  rw [argsort_table]
  dsimp only
  rw [wrap_table]

/-- Place `i` of block `c` is in piece `c` of the whole array, -/
theorem place_piece (h : Layout.Tiles S1x256x256 S4x256x256 0 4) (c : Fin 4) (i : S1x256x256.Idx) : h.idx c i 0 = c := by
  refine Fin.ext ((h.idx_val c i 0).trans ?_)
  have : (i 0).val < 1 := (i 0).isLt
  show c.val * 1 + (i 0).val = c.val
  omega

/-- at the same row and column. -/
theorem place_row (h : Layout.Tiles S1x256x256 S4x256x256 0 4) (c d : Fin 4) (i : S1x256x256.Idx) : h.idx c i 1 = h.idx d i 1 := rfl
theorem place_column (h : Layout.Tiles S1x256x256 S4x256x256 0 4) (c d : Fin 4) (i : S1x256x256.Idx) : h.idx c i 2 = h.idx d i 2 := rfl

/-- Block `c` of what it computes from the table of `σ` is block `σ⁻¹ c` of `x`. -/
theorem block_gathered {α : Type} (x : S4x256x256.Idx → α) (σ : Routing) (c : Fin 4) (h : Layout.Tiles S1x256x256 S4x256x256 0 4) :
    Layout.block S1x256x256 S4x256x256 0 4 c (gathered x (table σ)) h = Layout.block S1x256x256 S4x256x256 0 4 (σ.symm c) x h := by
  rw [gathered_table]
  funext i
  exact gather_at σ.symm x (h.idx c i) (h.idx (σ.symm c) i)
    ((place_piece h _ i).trans (congrArg σ.symm (place_piece h c i).symm)) (place_row h _ _ i) (place_column h _ _ i)

end

/-- The kernel's result and the reference's, from memories that agree: there is one whole array of which every device ends
    holding its block and which the reference ends holding; both keep their arguments. -/
theorem value_of_table (lit : Fin 4 → BitVec 32) (h : Names lit)
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (ρ' : Dev Cert.ReferenceIdeal.nD → PrngReg)
    (hp : ∀ c : Dev Cert.KernelIdeal.nD, Holds lit (m ((c.tc : Thread Cert.KernelIdeal.nD Cert.KernelIdeal.τ).loc Cert.KernelIdeal.main_arg1)))
    (hag : ∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c
          (m' (((0 : Dev Cert.ReferenceIdeal.nD).tc : Thread _ Cert.ReferenceIdeal.τ).loc Cert.ReferenceIdeal.main_arg0))
        ∧ m ((c.tc : Thread Cert.KernelIdeal.nD Cert.KernelIdeal.τ).loc Cert.KernelIdeal.main_arg1)
          = m' (((0 : Dev Cert.ReferenceIdeal.nD).tc : Thread _ Cert.ReferenceIdeal.τ).loc Cert.ReferenceIdeal.main_arg1)) :
    ∃ v : Buf (Elt Ideal) (((0 : Dev Cert.ReferenceIdeal.nD).tc : Thread _ Cert.ReferenceIdeal.τ).loc Cert.ReferenceIdeal.main_v7),
      θ_run Cert.KernelIdeal.defs (onTc (τ := Cert.KernelIdeal.τ) (Cert.KernelIdeal.main (F := Ideal))) ⟨m, fun _ => 0, ρ⟩ (fun r =>
        ∀ c : Dev Cert.KernelIdeal.nD,
          r.2.mem ((c.tc : Thread Cert.KernelIdeal.nD Cert.KernelIdeal.τ).loc Cert.KernelIdeal.main_v1)
              = Layout.block ⟨3, ![1, 256, 256]⟩ ⟨3, ![4, 256, 256]⟩ 0 4 c v
            ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
            ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))
      ∧ θ_run Cert.ReferenceIdeal.defs (onTc (τ := Cert.ReferenceIdeal.τ) (Cert.ReferenceIdeal.main (F := Ideal))) ⟨m', fun _ => 0, ρ'⟩ (fun r =>
        r.2.mem (((0 : Dev Cert.ReferenceIdeal.nD).tc : Thread _ Cert.ReferenceIdeal.τ).loc Cert.ReferenceIdeal.main_v7) = v
          ∧ r.2.mem (((0 : Dev Cert.ReferenceIdeal.nD).tc : Thread _ Cert.ReferenceIdeal.τ).loc Cert.ReferenceIdeal.main_arg0)
            = m' (((0 : Dev Cert.ReferenceIdeal.nD).tc : Thread _ Cert.ReferenceIdeal.τ).loc Cert.ReferenceIdeal.main_arg0)
          ∧ r.2.mem (((0 : Dev Cert.ReferenceIdeal.nD).tc : Thread _ Cert.ReferenceIdeal.τ).loc Cert.ReferenceIdeal.main_arg1)
            = m' (((0 : Dev Cert.ReferenceIdeal.nD).tc : Thread _ Cert.ReferenceIdeal.τ).loc Cert.ReferenceIdeal.main_arg1)) := by
  obtain ⟨σ, hT⟩ := routing_of (fun c : Dev Cert.KernelIdeal.nD => m ((c.tc : Thread Cert.KernelIdeal.nD Cert.KernelIdeal.τ).loc Cert.KernelIdeal.main_arg1)) h hp
  have hT' : m' (((0 : Dev Cert.ReferenceIdeal.nD).tc : Thread _ Cert.ReferenceIdeal.τ).loc Cert.ReferenceIdeal.main_arg1) = table σ :=
    (hag 0).2.symm.trans (hT 0)
  refine ⟨gathered (m' (((0 : Dev Cert.ReferenceIdeal.nD).tc : Thread _ Cert.ReferenceIdeal.τ).loc Cert.ReferenceIdeal.main_arg0)) (table σ), ?_, ?_⟩
  · refine (θ_run Cert.KernelIdeal.defs _ _).mono (fun _ hr c => ⟨(hr.1 c).1.trans ?_, (hr.1 c).2⟩) (run_main m σ ρ hT)
    exact (hag (σ.symm c)).1.trans (block_gathered _ σ c _).symm
  · refine (θ_run Cert.ReferenceIdeal.defs _ _).mono (fun _ hr => ⟨(hr 0).1.trans ?_, (hr 0).2⟩) (Cert.ReferenceIdeal.Value.run m' ρ')
    exact congrArg (gathered _) hT'

end Cert.Proof

end
-- ==== Proof.lean ====
/-
The certificate put together. The programs' stated facts come first; then, for each of the twenty-four tables, the frame of
the kernel over machine floats and over exact ones; the reference's frames; that the ideal kernel is the kernel, where
nothing was rewritten; and for each table the value. What is left to check at each table is that its four literal words are
four different device numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pi_is_0123_Kernel
public import proofs.«01_k».proof.Proof.Gen.Pre_pi_is_0132_Kernel
public import proofs.«01_k».proof.Proof.Gen.Pre_pi_is_0213_Kernel
public import proofs.«01_k».proof.Proof.Gen.Pre_pi_is_0231_Kernel
public import proofs.«01_k».proof.Proof.Gen.Pre_pi_is_0312_Kernel
public import proofs.«01_k».proof.Proof.Gen.Pre_pi_is_0321_Kernel
public import proofs.«01_k».proof.Proof.Gen.Pre_pi_is_1023_Kernel
public import proofs.«01_k».proof.Proof.Gen.Pre_pi_is_1032_Kernel
public import proofs.«01_k».proof.Proof.Gen.Pre_pi_is_1203_Kernel
public import proofs.«01_k».proof.Proof.Gen.Pre_pi_is_1230_Kernel
public import proofs.«01_k».proof.Proof.Gen.Pre_pi_is_1302_Kernel
public import proofs.«01_k».proof.Proof.Gen.Pre_pi_is_1320_Kernel
public import proofs.«01_k».proof.Proof.Gen.Pre_pi_is_2013_Kernel
public import proofs.«01_k».proof.Proof.Gen.Pre_pi_is_2031_Kernel
public import proofs.«01_k».proof.Proof.Gen.Pre_pi_is_2103_Kernel
public import proofs.«01_k».proof.Proof.Gen.Pre_pi_is_2130_Kernel
public import proofs.«01_k».proof.Proof.Gen.Pre_pi_is_2301_Kernel
public import proofs.«01_k».proof.Proof.Gen.Pre_pi_is_2310_Kernel
public import proofs.«01_k».proof.Proof.Gen.Pre_pi_is_3012_Kernel
public import proofs.«01_k».proof.Proof.Gen.Pre_pi_is_3021_Kernel
public import proofs.«01_k».proof.Proof.Gen.Pre_pi_is_3102_Kernel
public import proofs.«01_k».proof.Proof.Gen.Pre_pi_is_3120_Kernel
public import proofs.«01_k».proof.Proof.Gen.Pre_pi_is_3201_Kernel
public import proofs.«01_k».proof.Proof.Gen.Pre_pi_is_3210_Kernel
public import proofs.«01_k».proof.Proof.Gen.Pre_pi_is_0123_ReferenceIdeal
public import proofs.«01_k».proof.Proof.Gen.Pre_pi_is_0132_ReferenceIdeal
public import proofs.«01_k».proof.Proof.Gen.Pre_pi_is_0213_ReferenceIdeal
public import proofs.«01_k».proof.Proof.Gen.Pre_pi_is_0231_ReferenceIdeal
public import proofs.«01_k».proof.Proof.Gen.Pre_pi_is_0312_ReferenceIdeal
public import proofs.«01_k».proof.Proof.Gen.Pre_pi_is_0321_ReferenceIdeal
public import proofs.«01_k».proof.Proof.Gen.Pre_pi_is_1023_ReferenceIdeal
public import proofs.«01_k».proof.Proof.Gen.Pre_pi_is_1032_ReferenceIdeal
public import proofs.«01_k».proof.Proof.Gen.Pre_pi_is_1203_ReferenceIdeal
public import proofs.«01_k».proof.Proof.Gen.Pre_pi_is_1230_ReferenceIdeal
public import proofs.«01_k».proof.Proof.Gen.Pre_pi_is_1302_ReferenceIdeal
public import proofs.«01_k».proof.Proof.Gen.Pre_pi_is_1320_ReferenceIdeal
public import proofs.«01_k».proof.Proof.Gen.Pre_pi_is_2013_ReferenceIdeal
public import proofs.«01_k».proof.Proof.Gen.Pre_pi_is_2031_ReferenceIdeal
public import proofs.«01_k».proof.Proof.Gen.Pre_pi_is_2103_ReferenceIdeal
public import proofs.«01_k».proof.Proof.Gen.Pre_pi_is_2130_ReferenceIdeal
public import proofs.«01_k».proof.Proof.Gen.Pre_pi_is_2301_ReferenceIdeal
public import proofs.«01_k».proof.Proof.Gen.Pre_pi_is_2310_ReferenceIdeal
public import proofs.«01_k».proof.Proof.Gen.Pre_pi_is_3012_ReferenceIdeal
public import proofs.«01_k».proof.Proof.Gen.Pre_pi_is_3021_ReferenceIdeal
public import proofs.«01_k».proof.Proof.Gen.Pre_pi_is_3102_ReferenceIdeal
public import proofs.«01_k».proof.Proof.Gen.Pre_pi_is_3120_ReferenceIdeal
public import proofs.«01_k».proof.Proof.Gen.Pre_pi_is_3201_ReferenceIdeal
public import proofs.«01_k».proof.Proof.Gen.Pre_pi_is_3210_ReferenceIdeal
public import Idealize.ShloMosaic.Adequacy
public import Idealize.ShloMosaic.Init
public import proofs.«01_k».proof.Proof.Frames
public import proofs.«01_k».proof.Proof.Value

@[expose] public section

noncomputable section

namespace Cert.Proof

/-- Every claim of this certificate. -/
theorem claim : Cert.Claim := ⟨
    Cert.Kernel.Gen.facts, Cert.KernelIdeal.Gen.facts, Cert.ReferenceIdeal.Gen.facts, Cert.Pre_pi_is_0123_Kernel.Gen.facts,
    Cert.Pre_pi_is_0132_Kernel.Gen.facts, Cert.Pre_pi_is_0213_Kernel.Gen.facts, Cert.Pre_pi_is_0231_Kernel.Gen.facts,
    Cert.Pre_pi_is_0312_Kernel.Gen.facts, Cert.Pre_pi_is_0321_Kernel.Gen.facts, Cert.Pre_pi_is_1023_Kernel.Gen.facts,
    Cert.Pre_pi_is_1032_Kernel.Gen.facts, Cert.Pre_pi_is_1203_Kernel.Gen.facts, Cert.Pre_pi_is_1230_Kernel.Gen.facts,
    Cert.Pre_pi_is_1302_Kernel.Gen.facts, Cert.Pre_pi_is_1320_Kernel.Gen.facts, Cert.Pre_pi_is_2013_Kernel.Gen.facts,
    Cert.Pre_pi_is_2031_Kernel.Gen.facts, Cert.Pre_pi_is_2103_Kernel.Gen.facts, Cert.Pre_pi_is_2130_Kernel.Gen.facts,
    Cert.Pre_pi_is_2301_Kernel.Gen.facts, Cert.Pre_pi_is_2310_Kernel.Gen.facts, Cert.Pre_pi_is_3012_Kernel.Gen.facts,
    Cert.Pre_pi_is_3021_Kernel.Gen.facts, Cert.Pre_pi_is_3102_Kernel.Gen.facts, Cert.Pre_pi_is_3120_Kernel.Gen.facts,
    Cert.Pre_pi_is_3201_Kernel.Gen.facts, Cert.Pre_pi_is_3210_Kernel.Gen.facts, Cert.Pre_pi_is_0123_ReferenceIdeal.Gen.facts,
    Cert.Pre_pi_is_0132_ReferenceIdeal.Gen.facts, Cert.Pre_pi_is_0213_ReferenceIdeal.Gen.facts, Cert.Pre_pi_is_0231_ReferenceIdeal.Gen.facts,
    Cert.Pre_pi_is_0312_ReferenceIdeal.Gen.facts, Cert.Pre_pi_is_0321_ReferenceIdeal.Gen.facts, Cert.Pre_pi_is_1023_ReferenceIdeal.Gen.facts,
    Cert.Pre_pi_is_1032_ReferenceIdeal.Gen.facts, Cert.Pre_pi_is_1203_ReferenceIdeal.Gen.facts, Cert.Pre_pi_is_1230_ReferenceIdeal.Gen.facts,
    Cert.Pre_pi_is_1302_ReferenceIdeal.Gen.facts, Cert.Pre_pi_is_1320_ReferenceIdeal.Gen.facts, Cert.Pre_pi_is_2013_ReferenceIdeal.Gen.facts,
    Cert.Pre_pi_is_2031_ReferenceIdeal.Gen.facts, Cert.Pre_pi_is_2103_ReferenceIdeal.Gen.facts, Cert.Pre_pi_is_2130_ReferenceIdeal.Gen.facts,
    Cert.Pre_pi_is_2301_ReferenceIdeal.Gen.facts, Cert.Pre_pi_is_2310_ReferenceIdeal.Gen.facts, Cert.Pre_pi_is_3012_ReferenceIdeal.Gen.facts,
    Cert.Pre_pi_is_3021_ReferenceIdeal.Gen.facts, Cert.Pre_pi_is_3102_ReferenceIdeal.Gen.facts, Cert.Pre_pi_is_3120_ReferenceIdeal.Gen.facts,
    Cert.Pre_pi_is_3201_ReferenceIdeal.Gen.facts, Cert.Pre_pi_is_3210_ReferenceIdeal.Gen.facts,
  frame_kernel Cert.Pre_pi_is_0123_Kernel.lit0 (by decide),
  frame_kernel Cert.Pre_pi_is_0132_Kernel.lit0 (by decide),
  frame_kernel Cert.Pre_pi_is_0213_Kernel.lit0 (by decide),
  frame_kernel Cert.Pre_pi_is_0231_Kernel.lit0 (by decide),
  frame_kernel Cert.Pre_pi_is_0312_Kernel.lit0 (by decide),
  frame_kernel Cert.Pre_pi_is_0321_Kernel.lit0 (by decide),
  frame_kernel Cert.Pre_pi_is_1023_Kernel.lit0 (by decide),
  frame_kernel Cert.Pre_pi_is_1032_Kernel.lit0 (by decide),
  frame_kernel Cert.Pre_pi_is_1203_Kernel.lit0 (by decide),
  frame_kernel Cert.Pre_pi_is_1230_Kernel.lit0 (by decide),
  frame_kernel Cert.Pre_pi_is_1302_Kernel.lit0 (by decide),
  frame_kernel Cert.Pre_pi_is_1320_Kernel.lit0 (by decide),
  frame_kernel Cert.Pre_pi_is_2013_Kernel.lit0 (by decide),
  frame_kernel Cert.Pre_pi_is_2031_Kernel.lit0 (by decide),
  frame_kernel Cert.Pre_pi_is_2103_Kernel.lit0 (by decide),
  frame_kernel Cert.Pre_pi_is_2130_Kernel.lit0 (by decide),
  frame_kernel Cert.Pre_pi_is_2301_Kernel.lit0 (by decide),
  frame_kernel Cert.Pre_pi_is_2310_Kernel.lit0 (by decide),
  frame_kernel Cert.Pre_pi_is_3012_Kernel.lit0 (by decide),
  frame_kernel Cert.Pre_pi_is_3021_Kernel.lit0 (by decide),
  frame_kernel Cert.Pre_pi_is_3102_Kernel.lit0 (by decide),
  frame_kernel Cert.Pre_pi_is_3120_Kernel.lit0 (by decide),
  frame_kernel Cert.Pre_pi_is_3201_Kernel.lit0 (by decide),
  frame_kernel Cert.Pre_pi_is_3210_Kernel.lit0 (by decide),
  frame_of_table Cert.Pre_pi_is_0123_Kernel.lit0 (by decide),
  frame_of_table Cert.Pre_pi_is_0132_Kernel.lit0 (by decide),
  frame_of_table Cert.Pre_pi_is_0213_Kernel.lit0 (by decide),
  frame_of_table Cert.Pre_pi_is_0231_Kernel.lit0 (by decide),
  frame_of_table Cert.Pre_pi_is_0312_Kernel.lit0 (by decide),
  frame_of_table Cert.Pre_pi_is_0321_Kernel.lit0 (by decide),
  frame_of_table Cert.Pre_pi_is_1023_Kernel.lit0 (by decide),
  frame_of_table Cert.Pre_pi_is_1032_Kernel.lit0 (by decide),
  frame_of_table Cert.Pre_pi_is_1203_Kernel.lit0 (by decide),
  frame_of_table Cert.Pre_pi_is_1230_Kernel.lit0 (by decide),
  frame_of_table Cert.Pre_pi_is_1302_Kernel.lit0 (by decide),
  frame_of_table Cert.Pre_pi_is_1320_Kernel.lit0 (by decide),
  frame_of_table Cert.Pre_pi_is_2013_Kernel.lit0 (by decide),
  frame_of_table Cert.Pre_pi_is_2031_Kernel.lit0 (by decide),
  frame_of_table Cert.Pre_pi_is_2103_Kernel.lit0 (by decide),
  frame_of_table Cert.Pre_pi_is_2130_Kernel.lit0 (by decide),
  frame_of_table Cert.Pre_pi_is_2301_Kernel.lit0 (by decide),
  frame_of_table Cert.Pre_pi_is_2310_Kernel.lit0 (by decide),
  frame_of_table Cert.Pre_pi_is_3012_Kernel.lit0 (by decide),
  frame_of_table Cert.Pre_pi_is_3021_Kernel.lit0 (by decide),
  frame_of_table Cert.Pre_pi_is_3102_Kernel.lit0 (by decide),
  frame_of_table Cert.Pre_pi_is_3120_Kernel.lit0 (by decide),
  frame_of_table Cert.Pre_pi_is_3201_Kernel.lit0 (by decide),
  frame_of_table Cert.Pre_pi_is_3210_Kernel.lit0 (by decide),
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  trivial,
  value_of_table Cert.Pre_pi_is_0123_Kernel.lit0 (by decide),
  value_of_table Cert.Pre_pi_is_0132_Kernel.lit0 (by decide),
  value_of_table Cert.Pre_pi_is_0213_Kernel.lit0 (by decide),
  value_of_table Cert.Pre_pi_is_0231_Kernel.lit0 (by decide),
  value_of_table Cert.Pre_pi_is_0312_Kernel.lit0 (by decide),
  value_of_table Cert.Pre_pi_is_0321_Kernel.lit0 (by decide),
  value_of_table Cert.Pre_pi_is_1023_Kernel.lit0 (by decide),
  value_of_table Cert.Pre_pi_is_1032_Kernel.lit0 (by decide),
  value_of_table Cert.Pre_pi_is_1203_Kernel.lit0 (by decide),
  value_of_table Cert.Pre_pi_is_1230_Kernel.lit0 (by decide),
  value_of_table Cert.Pre_pi_is_1302_Kernel.lit0 (by decide),
  value_of_table Cert.Pre_pi_is_1320_Kernel.lit0 (by decide),
  value_of_table Cert.Pre_pi_is_2013_Kernel.lit0 (by decide),
  value_of_table Cert.Pre_pi_is_2031_Kernel.lit0 (by decide),
  value_of_table Cert.Pre_pi_is_2103_Kernel.lit0 (by decide),
  value_of_table Cert.Pre_pi_is_2130_Kernel.lit0 (by decide),
  value_of_table Cert.Pre_pi_is_2301_Kernel.lit0 (by decide),
  value_of_table Cert.Pre_pi_is_2310_Kernel.lit0 (by decide),
  value_of_table Cert.Pre_pi_is_3012_Kernel.lit0 (by decide),
  value_of_table Cert.Pre_pi_is_3021_Kernel.lit0 (by decide),
  value_of_table Cert.Pre_pi_is_3102_Kernel.lit0 (by decide),
  value_of_table Cert.Pre_pi_is_3120_Kernel.lit0 (by decide),
  value_of_table Cert.Pre_pi_is_3201_Kernel.lit0 (by decide),
  value_of_table Cert.Pre_pi_is_3210_Kernel.lit0 (by decide)⟩

end Cert.Proof

end
